-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits_block_mask [hPre_finite_logits_block_mask : Cert.Pre_finite_logits_block_mask.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits_block_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_logits_block_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_logits_block_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_logits_block_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits_block_mask [hPre_finite_logits_block_mask : Cert.Pre_finite_logits_block_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits_block_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_logits_block_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_logits_block_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_logits_block_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_logits_block_mask [hKernelIdeal : Cert.KernelIdeal.Facts] [hPre_finite_logits_block_mask : Cert.Pre_finite_logits_block_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits_block_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_logits_block_mask [hReferenceIdeal : Cert.ReferenceIdeal.Facts] [hPre_finite_logits_block_mask : Cert.Pre_finite_logits_block_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits_block_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_logits_block_mask [hKernelIdeal : Cert.KernelIdeal.Facts] [hReferenceIdeal : Cert.ReferenceIdeal.Facts] [hPre_finite_logits_block_mask : Cert.Pre_finite_logits_block_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits_block_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_logits_block_mask : Cert.Pre_finite_logits_block_mask.Facts),
    quiescent_Kernel (hKernel := hKernel)
    ∧ quiescent_KernelIdeal (hKernelIdeal := hKernelIdeal)
    ∧ quiescent_KernelIdeal_pre_finite_logits_block_mask (hKernelIdeal := hKernelIdeal) (hPre_finite_logits_block_mask := hPre_finite_logits_block_mask)
    ∧ quiescent_ReferenceIdeal (hReferenceIdeal := hReferenceIdeal)
    ∧ quiescent_ReferenceIdeal_pre_finite_logits_block_mask (hReferenceIdeal := hReferenceIdeal) (hPre_finite_logits_block_mask := hPre_finite_logits_block_mask)
    ∧ preserves_Kernel_KernelIdeal
    ∧ algebraic_KernelIdeal_ReferenceIdeal_pre_finite_logits_block_mask (hKernelIdeal := hKernelIdeal) (hReferenceIdeal := hReferenceIdeal) (hPre_finite_logits_block_mask := hPre_finite_logits_block_mask)
-- ==== Pre_finite_logits_block_mask.lean ====
abbrev S256x8x512 : Shape := ⟨3, ![256, 8, 512]⟩
abbrev S256x128x512 : Shape := ⟨3, ![256, 128, 512]⟩
abbrev S512x512 : Shape := ⟨2, ![512, 512]⟩
abbrev S512 : Shape := ⟨1, ![512]⟩
abbrev S8x128 : Shape := ⟨2, ![8, 128]⟩
abbrev S_ : Shape := ⟨0, ![]⟩

class Facts : Prop where
  bcast_S_S8x128 : S_.BroadcastsInDim S8x128 (![] : Fin 0 → Fin S8x128.rank)
  bcast_S_S256x8x512 : S_.BroadcastsInDim S256x8x512 (![] : Fin 0 → Fin S256x8x512.rank)
  bcast_S_S256x128x512 : S_.BroadcastsInDim S256x128x512 (![] : Fin 0 → Fin S256x128x512.rank)
  bcast_S_S512x512 : S_.BroadcastsInDim S512x512 (![] : Fin 0 → Fin S512x512.rank)

variable [Facts]

def fn_part1 {F : FTy → Type} [FloatOps F] (main_arg7 : IVec S8x128 1) (main_v10 : IVec S8x128 1) (main_v13 : IVec S256x8x512 1) (main_v16 : IVec S256x128x512 1) (main_v17 : FVec F S512x512 .f32) (main_cst_3 : FVec F S_ .f32) : IVec S256x8x512 1 × IVec S256x128x512 1 × IVec S512x512 1 × IVec S8x128 1 :=
  let main_v18 : FVec F S512x512 .f32 := broadcastInDim S512x512 ![] bcast_S_S512x512 main_cst_3
  let main_v19 : IVec S512x512 1 := cmpf .olt main_v17 main_v18
  let main_v20 : IVec S8x128 1 := cmpi .eq main_arg7 main_v10
  (main_v13, main_v16, main_v19, main_v20)

def fn {F : FTy → Type} [FloatOps F] (main_arg0 : FVec F S256x8x512 .f32) (main_arg1 : FVec F S256x128x512 .f32) (main_arg2 : FVec F S256x128x512 .f32) (main_arg3 : FVec F S512x512 .f32) (main_arg4 : FVec F S512x512 .f32) (main_arg5 : FVec F S512x512 .f32) (main_arg6 : FVec F S512 .f32) (main_arg7 : IVec S8x128 1) : IVec S256x8x512 1 × IVec S256x128x512 1 × IVec S512x512 1 × IVec S8x128 1 :=
  let main_v0 : IVec S8x128 32 := iotaInDim S8x128 32 0
  let main_v1 : IVec S8x128 32 := iotaInDim S8x128 32 1
  let main_c : IVec S_ 32 := constantI S_ 32 16#32
  let main_v2 : IVec S8x128 32 := broadcastInDim S8x128 ![] bcast_S_S8x128 main_c
  let main_v3 : IVec S8x128 32 := muli main_v0 main_v2
  let main_v4 : IVec S8x128 1 := cmpi .slt main_v1 main_v3
  let main_c_0 : IVec S_ 32 := constantI S_ 32 16#32
  let main_v5 : IVec S8x128 32 := broadcastInDim S8x128 ![] bcast_S_S8x128 main_c_0
  let main_v6 : IVec S8x128 32 := muli main_v0 main_v5
  let main_c_1 : IVec S_ 32 := constantI S_ 32 16#32
  let main_v7 : IVec S8x128 32 := broadcastInDim S8x128 ![] bcast_S_S8x128 main_c_1
  let main_v8 : IVec S8x128 32 := addi main_v6 main_v7
  let main_v9 : IVec S8x128 1 := cmpi .sge main_v1 main_v8
  let main_v10 : IVec S8x128 1 := ori main_v4 main_v9
  let main_v11 : FVec F S256x8x512 .f32 := Host.absf main_arg0
  let main_cst : FVec F S_ .f32 := constant S_ .f32 0x7F800000#32
  let main_v12 : FVec F S256x8x512 .f32 := broadcastInDim S256x8x512 ![] bcast_S_S256x8x512 main_cst
  let main_v13 : IVec S256x8x512 1 := cmpf .olt main_v11 main_v12
  let main_v14 : FVec F S256x128x512 .f32 := Host.absf main_arg1
  let main_cst_2 : FVec F S_ .f32 := constant S_ .f32 0x7F800000#32
  let main_v15 : FVec F S256x128x512 .f32 := broadcastInDim S256x128x512 ![] bcast_S_S256x128x512 main_cst_2
  let main_v16 : IVec S256x128x512 1 := cmpf .olt main_v14 main_v15
  let main_v17 : FVec F S512x512 .f32 := Host.absf main_arg3
  let main_cst_3 : FVec F S_ .f32 := constant S_ .f32 0x7F800000#32
  fn_part1 (F := F) main_arg7 main_v10 main_v13 main_v16 main_v17 main_cst_3
-- ==== Kernel.lean ====
abbrev S256x8x512 : Shape := ⟨3, ![256, 8, 512]⟩
abbrev S256x128x512 : Shape := ⟨3, ![256, 128, 512]⟩
abbrev S512x512 : Shape := ⟨2, ![512, 512]⟩
abbrev S512 : Shape := ⟨1, ![512]⟩
abbrev S8x128 : Shape := ⟨2, ![8, 128]⟩
abbrev S1x512 : Shape := ⟨2, ![1, 512]⟩
abbrev S2048 : Shape := ⟨1, ![2048]⟩
abbrev S2048x1 : Shape := ⟨2, ![2048, 1]⟩
abbrev S_ : Shape := ⟨0, ![]⟩
abbrev S128 : Shape := ⟨1, ![128]⟩
abbrev S1x128 : Shape := ⟨2, ![1, 128]⟩
abbrev S2048x128 : Shape := ⟨2, ![2048, 128]⟩
abbrev S512x1 : Shape := ⟨2, ![512, 1]⟩
abbrev S8 : Shape := ⟨1, ![8]⟩
abbrev S1x8 : Shape := ⟨2, ![1, 8]⟩
abbrev S512x8 : Shape := ⟨2, ![512, 8]⟩
abbrev S8x512 : Shape := ⟨2, ![8, 512]⟩
abbrev S128x2048 : Shape := ⟨2, ![128, 2048]⟩
abbrev S16x8x512 : Shape := ⟨3, ![16, 8, 512]⟩
abbrev S16x128x512 : Shape := ⟨3, ![16, 128, 512]⟩
abbrev S2048x512 : Shape := ⟨2, ![2048, 512]⟩
abbrev S128x512 : Shape := ⟨2, ![128, 512]⟩
abbrev S2048x8 : Shape := ⟨2, ![2048, 8]⟩
abbrev S128x16x8 : Shape := ⟨3, ![128, 16, 8]⟩
abbrev S128x8 : Shape := ⟨2, ![128, 8]⟩
abbrev S128x1x8 : Shape := ⟨3, ![128, 1, 8]⟩

abbrev nBuf : Space → Nat
  | .hbm => 70
  | .vmem => 16
  | .smem => 0
  | _ => 0

abbrev bufTy : (tb : Table) → Fin (tcTables nBuf tb) → BufTy
  | .hbm, ⟨0, _⟩ => ⟨S256x8x512, .f32⟩
  | .hbm, ⟨1, _⟩ => ⟨S256x128x512, .f32⟩
  | .hbm, ⟨2, _⟩ => ⟨S256x128x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S8x128, .i1⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S512x512, .bf16⟩
  | .hbm, ⟨14, _⟩ => ⟨S1x512, .f32⟩
  | .hbm, ⟨15, _⟩ => ⟨S2048, .i32⟩
  | .hbm, ⟨16, _⟩ => ⟨S2048x1, .i32⟩
  | .hbm, ⟨17, _⟩ => ⟨S_, .i32⟩
  | .hbm, ⟨18, _⟩ => ⟨S_, .i32⟩
  | .hbm, ⟨19, _⟩ => ⟨S2048x1, .i32⟩
  | .hbm, ⟨20, _⟩ => ⟨S2048x1, .i32⟩
  | .hbm, ⟨21, _⟩ => ⟨S2048x1, .i32⟩
  | .hbm, ⟨22, _⟩ => ⟨S_, .i32⟩
  | .hbm, ⟨23, _⟩ => ⟨S2048x1, .i32⟩
  | .hbm, ⟨24, _⟩ => ⟨S2048x1, .i1⟩
  | .hbm, ⟨25, _⟩ => ⟨S2048x1, .i32⟩
  | .hbm, ⟨26, _⟩ => ⟨S2048x1, .i32⟩
  | .hbm, ⟨27, _⟩ => ⟨S_, .i32⟩
  | .hbm, ⟨28, _⟩ => ⟨S2048x1, .i32⟩
  | .hbm, ⟨29, _⟩ => ⟨S2048x1, .i1⟩
  | .hbm, ⟨30, _⟩ => ⟨S2048x1, .i1⟩
  | .hbm, ⟨31, _⟩ => ⟨S_, .i32⟩
  | .hbm, ⟨32, _⟩ => ⟨S2048x1, .i32⟩
  | .hbm, ⟨33, _⟩ => ⟨S2048x1, .i32⟩
  | .hbm, ⟨34, _⟩ => ⟨S2048x1, .i32⟩
  | .hbm, ⟨35, _⟩ => ⟨S128, .i32⟩
  | .hbm, ⟨36, _⟩ => ⟨S1x128, .i32⟩
  | .hbm, ⟨37, _⟩ => ⟨S2048x128, .i32⟩
  | .hbm, ⟨38, _⟩ => ⟨S2048x128, .i32⟩
  | .hbm, ⟨39, _⟩ => ⟨S2048x128, .i1⟩
  | .hbm, ⟨40, _⟩ => ⟨S2048x128, .bf16⟩
  | .hbm, ⟨41, _⟩ => ⟨S512, .i32⟩
  | .hbm, ⟨42, _⟩ => ⟨S512x1, .i32⟩
  | .hbm, ⟨43, _⟩ => ⟨S_, .i32⟩
  | .hbm, ⟨44, _⟩ => ⟨S_, .i32⟩
  | .hbm, ⟨45, _⟩ => ⟨S512x1, .i32⟩
  | .hbm, ⟨46, _⟩ => ⟨S512x1, .i32⟩
  | .hbm, ⟨47, _⟩ => ⟨S512x1, .i32⟩
  | .hbm, ⟨48, _⟩ => ⟨S_, .i32⟩
  | .hbm, ⟨49, _⟩ => ⟨S512x1, .i32⟩
  | .hbm, ⟨50, _⟩ => ⟨S512x1, .i1⟩
  | .hbm, ⟨51, _⟩ => ⟨S512x1, .i32⟩
  | .hbm, ⟨52, _⟩ => ⟨S512x1, .i32⟩
  | .hbm, ⟨53, _⟩ => ⟨S_, .i32⟩
  | .hbm, ⟨54, _⟩ => ⟨S512x1, .i32⟩
  | .hbm, ⟨55, _⟩ => ⟨S512x1, .i1⟩
  | .hbm, ⟨56, _⟩ => ⟨S512x1, .i1⟩
  | .hbm, ⟨57, _⟩ => ⟨S_, .i32⟩
  | .hbm, ⟨58, _⟩ => ⟨S512x1, .i32⟩
  | .hbm, ⟨59, _⟩ => ⟨S512x1, .i32⟩
  | .hbm, ⟨60, _⟩ => ⟨S512x1, .i32⟩
  | .hbm, ⟨61, _⟩ => ⟨S8, .i32⟩
  | .hbm, ⟨62, _⟩ => ⟨S1x8, .i32⟩
  | .hbm, ⟨63, _⟩ => ⟨S512x8, .i32⟩
  | .hbm, ⟨64, _⟩ => ⟨S512x8, .i32⟩
  | .hbm, ⟨65, _⟩ => ⟨S512x8, .i1⟩
  | .hbm, ⟨66, _⟩ => ⟨S512x8, .bf16⟩
  | .hbm, ⟨67, _⟩ => ⟨S8x512, .bf16⟩
  | .hbm, ⟨68, _⟩ => ⟨S128x2048, .bf16⟩
  | .hbm, ⟨69, _⟩ => ⟨S256x8x512, .f32⟩
  | .local _ .vmem, ⟨0, _⟩ => ⟨S16x8x512, .f32⟩
  | .local _ .vmem, ⟨1, _⟩ => ⟨S16x8x512, .f32⟩
  | .local _ .vmem, ⟨2, _⟩ => ⟨S16x128x512, .f32⟩
  | .local _ .vmem, ⟨3, _⟩ => ⟨S16x128x512, .f32⟩
  | .local _ .vmem, ⟨4, _⟩ => ⟨S16x128x512, .f32⟩
  | .local _ .vmem, ⟨5, _⟩ => ⟨S16x128x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1x512, .f32⟩
  | .local _ .vmem, ⟨10, _⟩ => ⟨S2048x128, .bf16⟩
  | .local _ .vmem, ⟨11, _⟩ => ⟨S512x8, .bf16⟩
  | .local _ .vmem, ⟨12, _⟩ => ⟨S8x512, .bf16⟩
  | .local _ .vmem, ⟨13, _⟩ => ⟨S128x2048, .bf16⟩
  | .local _ .vmem, ⟨14, _⟩ => ⟨S16x8x512, .f32⟩
  | .local _ .vmem, ⟨15, _⟩ => ⟨S16x8x512, .f32⟩
  | _, _ => ⟨S256x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x8 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S256x8x512 : Shape := ⟨3, ![256, 8, 512]⟩
abbrev S256x128x512 : Shape := ⟨3, ![256, 128, 512]⟩
abbrev S512x512 : Shape := ⟨2, ![512, 512]⟩
abbrev S512 : Shape := ⟨1, ![512]⟩
abbrev S8x128 : Shape := ⟨2, ![8, 128]⟩
abbrev S256x128x8x64 : Shape := ⟨4, ![256, 128, 8, 64]⟩
abbrev S256x8x8x64 : Shape := ⟨4, ![256, 8, 8, 64]⟩
abbrev S_ : Shape := ⟨0, ![]⟩
abbrev S256x8x8x128 : Shape := ⟨4, ![256, 8, 8, 128]⟩
abbrev S1x1x8x128 : Shape := ⟨4, ![1, 1, 8, 128]⟩
abbrev S256x8x8 : Shape := ⟨3, ![256, 8, 8]⟩
abbrev S256x8x8x1 : Shape := ⟨4, ![256, 8, 8, 1]⟩
abbrev S256x8x64x8 : Shape := ⟨4, ![256, 8, 64, 8]⟩
abbrev S1x1x512 : Shape := ⟨3, ![1, 1, 512]⟩

abbrev nBuf : Space → Nat
  | .hbm => 49
  | .vmem => 0
  | .smem => 0
  | _ => 0

abbrev bufTy : (tb : Table) → Fin (tcTables nBuf tb) → BufTy
  | .hbm, ⟨0, _⟩ => ⟨S256x8x512, .f32⟩
  | .hbm, ⟨1, _⟩ => ⟨S256x128x512, .f32⟩
  | .hbm, ⟨2, _⟩ => ⟨S256x128x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S8x128, .i1⟩
  | .hbm, ⟨8, _⟩ => ⟨S512x512, .f32⟩
  | .hbm, ⟨9, _⟩ => ⟨S256x128x512, .f32⟩
  | .hbm, ⟨10, _⟩ => ⟨S256x128x8x64, .f32⟩
  | .hbm, ⟨11, _⟩ => ⟨S512x512, .f32⟩
  | .hbm, ⟨12, _⟩ => ⟨S256x128x512, .f32⟩
  | .hbm, ⟨13, _⟩ => ⟨S256x128x8x64, .f32⟩
  | .hbm, ⟨14, _⟩ => ⟨S512x512, .f32⟩
  | .hbm, ⟨15, _⟩ => ⟨S256x8x512, .f32⟩
  | .hbm, ⟨16, _⟩ => ⟨S256x8x8x64, .f32⟩
  | .hbm, ⟨17, _⟩ => ⟨S_, .f32⟩
  | .hbm, ⟨18, _⟩ => ⟨S256x8x8x64, .f32⟩
  | .hbm, ⟨19, _⟩ => ⟨S256x8x8x64, .f32⟩
  | .hbm, ⟨20, _⟩ => ⟨S256x8x8x128, .f32⟩
  | .hbm, ⟨21, _⟩ => ⟨S1x1x8x128, .i1⟩
  | .hbm, ⟨22, _⟩ => ⟨S_, .f32⟩
  | .hbm, ⟨23, _⟩ => ⟨S_, .f32⟩
  | .hbm, ⟨24, _⟩ => ⟨S256x8x8x128, .i1⟩
  | .hbm, ⟨25, _⟩ => ⟨S256x8x8x128, .f32⟩
  | .hbm, ⟨26, _⟩ => ⟨S256x8x8x128, .f32⟩
  | .hbm, ⟨27, _⟩ => ⟨S_, .f32⟩
  | .hbm, ⟨28, _⟩ => ⟨S256x8x8, .f32⟩
  | .hbm, ⟨29, _⟩ => ⟨S_, .f32⟩
  | .hbm, ⟨30, _⟩ => ⟨S256x8x8, .f32⟩
  | .hbm, ⟨31, _⟩ => ⟨S256x8x8, .f32⟩
  | .hbm, ⟨32, _⟩ => ⟨S256x8x8x1, .f32⟩
  | .hbm, ⟨33, _⟩ => ⟨S256x8x8x128, .f32⟩
  | .hbm, ⟨34, _⟩ => ⟨S256x8x8x128, .f32⟩
  | .hbm, ⟨35, _⟩ => ⟨S256x8x8x128, .f32⟩
  | .hbm, ⟨36, _⟩ => ⟨S_, .f32⟩
  | .hbm, ⟨37, _⟩ => ⟨S256x8x8, .f32⟩
  | .hbm, ⟨38, _⟩ => ⟨S256x8x8x1, .f32⟩
  | .hbm, ⟨39, _⟩ => ⟨S256x8x8x128, .f32⟩
  | .hbm, ⟨40, _⟩ => ⟨S256x8x8x128, .f32⟩
  | .hbm, ⟨41, _⟩ => ⟨S256x8x64x8, .f32⟩
  | .hbm, ⟨42, _⟩ => ⟨S256x8x8x64, .f32⟩
  | .hbm, ⟨43, _⟩ => ⟨S256x8x512, .f32⟩
  | .hbm, ⟨44, _⟩ => ⟨S512x512, .f32⟩
  | .hbm, ⟨45, _⟩ => ⟨S256x8x512, .f32⟩
  | .hbm, ⟨46, _⟩ => ⟨S1x1x512, .f32⟩
  | .hbm, ⟨47, _⟩ => ⟨S256x8x512, .f32⟩
  | .hbm, ⟨48, _⟩ => ⟨S256x8x512, .f32⟩
  | _, _ => ⟨S256x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.Sums.lean ====
/- Sums and extended real numbers: what the one-hot factors of the kernel do to a sum, and when a sum of products is a real number. -/
module

public import Idealize.ShloMosaic.Lib.Pointwise

@[expose] public section

noncomputable section

open Idealize.ShloMosaic
open scoped BigOperators

namespace Cert.Attn

/-- Place `u` of group `g`, as one index over `J` groups of `T` places. -/
def groupAt {J T N : ℕ} (h : J * T = N) (g : Fin J) (u : Fin T) : Fin N :=
  ⟨g.val * T + u.val, by
    have := Nat.mul_le_mul_right T (Nat.succ_le_of_lt g.isLt)
    have := u.isLt
    rw [Nat.succ_mul] at *; omega⟩

/-- A place of group `g` lies in group `g`. -/
theorem groupAt_div {J T N : ℕ} (h : J * T = N) (g : Fin J) (u : Fin T) : (groupAt h g u).val / T = g.val := by
  have ht : 0 < T := by have := u.isLt; omega
  show (g.val * T + u.val) / T = g.val
  rw [mul_comm g.val T, Nat.mul_add_div ht, Nat.div_eq_of_lt u.isLt, Nat.add_zero]

/-- A sum over `J` groups of `T` places whose terms vanish outside group `g` is the sum over the places of that group. -/
theorem sum_group {J T N : ℕ} (h : J * T = N) (g : Fin J) (f : Fin N → EReal) (hf : ∀ j : Fin N, j.val / T ≠ g.val → f j = 0) :
    ∑ j, f j = ∑ u : Fin T, f (groupAt h g u) := by
  rw [Fin.sum_univ_tiles J T h f, Finset.sum_eq_single g]
  · rfl
  · intro b _ hb
    exact Finset.sum_eq_zero fun t _ => hf _ fun e => hb (Fin.ext ((groupAt_div h b t).symm.trans e))
  · exact fun hn => absurd (Finset.mem_univ _) hn

/-- A sum weighted by the indicator of group `g` (the indicator on the right) is the sum over that group. -/
theorem sum_mul_group {J T N : ℕ} (h : J * T = N) (g : Fin J) (f w : Fin N → EReal)
    (hw : ∀ j : Fin N, w j = if j.val / T = g.val then 1 else 0) : ∑ j, f j * w j = ∑ u : Fin T, f (groupAt h g u) := by
  rw [sum_group h g (fun j => f j * w j) fun j hj => by simp only [hw, if_neg hj, mul_zero]]
  exact Finset.sum_congr rfl fun u _ => by rw [hw, if_pos (groupAt_div h g u), mul_one]

/-- A sum weighted by the indicator of group `g` (the indicator on the left) is the sum over that group. -/
theorem sum_group_mul {J T N : ℕ} (h : J * T = N) (g : Fin J) (f w : Fin N → EReal)
    (hw : ∀ j : Fin N, w j = if j.val / T = g.val then 1 else 0) : ∑ j, w j * f j = ∑ u : Fin T, f (groupAt h g u) := by
  simp only [mul_comm (w _)]
  exact sum_mul_group h g f w hw

/-- A sum weighted by the indicator of one index (on the left) is the term there. -/
theorem sum_pick {N : ℕ} (a : Fin N) (f w : Fin N → EReal) (hw : ∀ j : Fin N, w j = if a.val = j.val then 1 else 0) :
    ∑ j, w j * f j = f a := by
  rw [Finset.sum_eq_single a]
  · rw [hw, if_pos rfl, one_mul]
  · intro b _ hb
    rw [hw, if_neg fun e => hb (Fin.ext e.symm), zero_mul]
  · exact fun hn => absurd (Finset.mem_univ _) hn

/-- A sum weighted by the indicator of one index (on the right) is the term there. -/
theorem sum_pick_right {N : ℕ} (a : Fin N) (f w : Fin N → EReal) (hw : ∀ j : Fin N, w j = if a.val = j.val then 1 else 0) :
    ∑ j, f j * w j = f a := by
  simp only [mul_comm (f _)]
  exact sum_pick a f w hw

/-- The extended real number is a real number. -/
def Finite (x : EReal) : Prop := ∃ r : ℝ, x = (r : EReal)

/-- A product of two real numbers is a real number. -/
theorem Finite.mul {x y : EReal} (hx : Finite x) (hy : Finite y) : Finite (x * y) := by
  obtain ⟨r, rfl⟩ := hx
  obtain ⟨s, rfl⟩ := hy
  exact ⟨r * s, (EReal.coe_mul r s).symm⟩

/-- A sum of real numbers, taken in the extended reals, is their real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of real numbers is a real number. -/
theorem Finite.sum {ι : Type} (s : Finset ι) (f : ι → EReal) (hf : ∀ i, Finite (f i)) : Finite (∑ i ∈ s, f i) := by
  choose r hr using hf
  exact ⟨∑ i ∈ s, r i, by simp only [hr, coe_sum]⟩

/-- An extended real number whose absolute value is below infinity is a real number. -/
theorem Finite.of_abs {x : EReal} (h : max x (-x) < ⊤) : Finite x := by
  induction x using EReal.rec with
  | bot => simp at h
  | coe r => exact ⟨r, rfl⟩
  | top => simp at h

end Cert.Attn

end
-- ==== Proof.Pre.lean ====
/- What the precondition says, element by element. -/
module

public import proofs.«01_k».proof.Pre_finite_logits_block_mask
public import proofs.«01_k».proof.Proof.Sums

@[expose] public section

set_option maxRecDepth 16384

noncomputable section

open Idealize.ShloMosaic Idealize.ShloMosaic.TcCoe

namespace Cert.Attn.Pre

open Cert.Pre_finite_logits_block_mask

/-- The side conditions the precondition's own operations need. -/
theorem facts : Cert.Pre_finite_logits_block_mask.Facts where
  bcast_S_S8x128 := by decide
  bcast_S_S256x8x512 := by decide
  bcast_S_S256x128x512 := by decide
  bcast_S_S512x512 := by decide

/-- The word 0x7F800000 is positive infinity. -/
theorem ofBits_inf : Ideal.ofBits .f32 0x7F800000#32 = ⊤ := by
  simp [Ideal.ofBits, Ideal.ieee]

/-- The comparison of an absolute value against infinity comes out 1 only at a real number. -/
theorem finite_of_bit {x : EReal}
    (h : BitVec.ofBool (decide (FloatOps.absf (F := Ideal) (φ := .f32) x < Ideal.ofBits .f32 0x7F800000#32)) = 1#1) : Finite x := by
  refine Finite.of_abs ?_
  rw [ofBits_inf] at h
  by_contra hn
  have : decide (FloatOps.absf (F := Ideal) (φ := .f32) x < (⊤ : EReal)) = false := decide_eq_false hn
  rw [this] at h
  exact absurd h (by decide)

/-- The comparison of a mask bit against the block pattern comes out 1 only where the bit is the pattern's. -/
theorem mask_of_bit : ∀ (a : Fin 8) (b : Fin 128) (x : BitVec 1),
    IntOp.cmpi CmpIPredicate.eq x
      (IntOp.ori (IntOp.cmpi CmpIPredicate.slt (BitVec.ofNat 32 ↑b) (IntOp.muli (BitVec.ofNat 32 ↑a) 16#32))
        (IntOp.cmpi CmpIPredicate.sge (BitVec.ofNat 32 ↑b)
          (IntOp.addi (IntOp.muli (BitVec.ofNat 32 ↑a) 16#32) 16#32))) = 1#1 →
      x = if b.val / 16 = a.val then 0#1 else 1#1 := by
  decide +kernel

variable [Cert.Pre_finite_logits_block_mask.Facts] {q : FVec Ideal S256x8x512 .f32} {k v : FVec Ideal S256x128x512 .f32}
  {wk wv wp : FVec Ideal S512x512 .f32} {bp : FVec Ideal S512 .f32} {mask : IVec S8x128 1}

/-- The queries are real numbers. -/
theorem q_finite (h : (fn (F := Ideal) q k v wk wv wp bp mask).1 = fun _ => 1#1) (a : Fin 256) (b : Fin 8) (c : Fin 512) :
    Finite (q (ix3 a b c)) := by
  have := congrFun h (ix3 a b c)
  pointwise [fn, fn_part1] at this
  exact finite_of_bit this

/-- The keys are real numbers. -/
theorem k_finite (h : (fn (F := Ideal) q k v wk wv wp bp mask).2.1 = fun _ => 1#1) (a : Fin 256) (b : Fin 128) (c : Fin 512) :
    Finite (k (ix3 a b c)) := by
  have := congrFun h (ix3 a b c)
  pointwise [fn, fn_part1] at this
  exact finite_of_bit this

/-- The weights of the query and key projection are real numbers. -/
theorem wk_finite (h : (fn (F := Ideal) q k v wk wv wp bp mask).2.2.1 = fun _ => 1#1) (a : Fin 512) (b : Fin 512) :
    Finite (wk (ix2 a b)) := by
  have := congrFun h (ix2 a b)
  pointwise [fn, fn_part1] at this
  exact finite_of_bit this

/-- The mask bit of query `a` and key `b` is 0 exactly where the key lies in the query's own block of 16. -/
theorem mask_at (h : (fn (F := Ideal) q k v wk wv wp bp mask).2.2.2 = fun _ => 1#1) (a : Fin 8) (b : Fin 128) :
    mask (ix2 a b) = if b.val / 16 = a.val then 0#1 else 1#1 := by
  have := congrFun h (ix2 a b)
  pointwise [fn, fn_part1] at this
  exact mask_of_bit a b _ this

end Cert.Attn.Pre

end
-- ==== Proof.Spec.lean ====
/- What both programs compute: the attention of one query over its own block of 16 keys, in plain sums. -/
module

public import proofs.«01_k».proof.Proof.Sums

@[expose] public section

noncomputable section

open Idealize.ShloMosaic
open scoped BigOperators

namespace Cert.Attn

/-- Feature `d` of head `h`, among the 512 features. -/
abbrev feat (h : Fin 8) (d : Fin 64) : Fin 512 := groupAt (J := 8) (T := 64) rfl h d

/-- The head a feature belongs to. -/
abbrev headOf (c : Fin 512) : Fin 8 := ⟨c.val / 64, by have := c.isLt; omega⟩

/-- Key `u` of query `i`'s block, among the 128 keys. -/
abbrev keyOf (i : Fin 8) (u : Fin 16) : Fin 128 := groupAt (J := 8) (T := 16) rfl i u

/-- Feature `c` of a row projected by `w`. -/
def proj (x : Fin 512 → EReal) (w : Fin 512 → Fin 512 → EReal) (c : Fin 512) : EReal := ∑ t, x t * w c t

/-- The score of a query row against a key row in head `h`: the products of the projected features, the query's scaled by `s`. -/
def score (s : EReal) (w : Fin 512 → Fin 512 → EReal) (q k : Fin 512 → EReal) (h : Fin 8) : EReal :=
  ∑ d : Fin 64, proj k w (feat h d) * (proj q w (feat h d) * s)

/-- The weight of key `u` of the block: its exponential's share of the block's sum of exponentials. -/
def weight (s : EReal) (w : Fin 512 → Fin 512 → EReal) (q : Fin 512 → EReal) (k : Fin 16 → Fin 512 → EReal) (h : Fin 8) (u : Fin 16) : EReal :=
  Ideal.div (Ideal.exp (score s w q (k u) h)) (∑ u', Ideal.exp (score s w q (k u') h))

/-- Feature `c` of the weighted mean of the block's projected values. -/
def mixed (s : EReal) (wk wv : Fin 512 → Fin 512 → EReal) (q : Fin 512 → EReal) (k v : Fin 16 → Fin 512 → EReal) (c : Fin 512) : EReal :=
  ∑ u, proj (v u) wv c * weight s wk q k (headOf c) u

/-- Feature `n` of the result: the mean projected by `wp`, and the bias added. -/
def attend (s : EReal) (wk wv wp : Fin 512 → Fin 512 → EReal) (bp : Fin 512 → EReal) (q : Fin 512 → EReal) (k v : Fin 16 → Fin 512 → EReal) (n : Fin 512) : EReal :=
  (∑ c, mixed s wk wv q k v c * wp n c) + bp n

/-- A projection of a row of real numbers by real weights is a real number. -/
theorem proj_finite {x : Fin 512 → EReal} {w : Fin 512 → Fin 512 → EReal} (hx : ∀ t, Finite (x t)) (hw : ∀ c t, Finite (w c t)) (c : Fin 512) :
    Finite (proj x w c) := Finite.sum _ _ fun t => (hx t).mul (hw c t)

/-- A score of real rows by real weights is a real number. -/
theorem score_finite {s : EReal} (hs : Finite s) {w : Fin 512 → Fin 512 → EReal} {q k : Fin 512 → EReal} (hw : ∀ c t, Finite (w c t))
    (hq : ∀ t, Finite (q t)) (hk : ∀ t, Finite (k t)) (h : Fin 8) : Finite (score s w q k h) :=
  Finite.sum _ _ fun _ => (proj_finite hk hw _).mul ((proj_finite hq hw _).mul hs)

end Cert.Attn

end
-- ==== Proof.Block.lean ====
/- What one grid point stores, read at an index, in terms of the plain attention of `Spec.lean`. -/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem
open scoped BigOperators

namespace Cert.KernelIdeal.Block

open Cert.KernelIdeal Cert.KernelIdeal.Gen Cert.Attn

/-- The word 0x3E000000, one eighth: the factor of the scaled queries. -/
abbrev eighth : EReal := Ideal.ofBits .f32 0x3E000000#32

/-- A row of the keys or values of a grid point's block: 16 batches of 128. -/
abbrev rowOf (b : Fin 16) (j : Fin 128) : Fin 2048 := groupAt (J := 16) (T := 128) rfl b j

/-- A row of the queries of a grid point's block: 16 batches of 8. -/
abbrev queryOf (b : Fin 16) (i : Fin 8) : Fin 128 := groupAt (J := 16) (T := 8) rfl b i

variable (kb vb : FVec Ideal S16x128x512 .f32) (qb : FVec Ideal S16x8x512 .f32) (w wv wp : FVec Ideal S512x512 .bf16)
  (e : FVec Ideal S2048x128 .bf16) (s : FVec Ideal S512x8 .bf16) (st : FVec Ideal S8x512 .bf16) (g : FVec Ideal S128x2048 .bf16)
  (bp : FVec Ideal S1x512 .f32) (a : FVec Ideal S2048x8 .f32)

/-- The logit of key row `R` in head `h` as the kernel computes it: the query row is fetched by a product with `e`, the head's features are summed by a product with `s`. -/
def logit (R : Fin 2048) (h : Fin 8) : EReal :=
  ∑ x, ((∑ y, kb (ix3 ⟨R.val / 128, by omega⟩ ⟨R.val % 128, by omega⟩ y) * w (ix2 y x))
    * ∑ z, e (ix2 R z) * ((∑ y, qb (ix3 ⟨z.val / 8, by omega⟩ ⟨z.val % 8, by omega⟩ y) * w (ix2 y x)) * eighth)) * s (ix2 x h)

/-- The attention weights the kernel stages, over its logits. -/
theorem pay2_logit (R : Fin 2048) (h : Fin 8) :
    k0_pay2 (F := Ideal) kb qb w w e s (ix2 R h)
      = Ideal.div (Ideal.exp (logit kb qb w e s R h)) (∑ u : Fin 16, Ideal.exp (logit kb qb w e s ⟨R.val / 16 * 16 + u.val, by omega⟩ h)) := by
  pointwise [k0_pay2]
  rfl

/-- The kernel's logit is the score of the query row against the key row. -/
theorem logit_at (he : ∀ R z, e (ix2 R z) = if R.val / 16 = z.val then 1 else 0) (hs : ∀ c h, s (ix2 c h) = if c.val / 64 = h.val then 1 else 0)
    (b : Fin 16) (i : Fin 8) (u : Fin 16) (h : Fin 8) (R : Fin 2048) (hR : R.val = (b.val * 8 + i.val) * 16 + u.val) :
    logit kb qb w e s R h
      = score eighth (fun c t => w (ix2 t c)) (fun t => qb (ix3 b i t)) (fun t => kb (ix3 b (keyOf i u) t)) h := by
  unfold logit
  rw [sum_mul_group (J := 8) (T := 64) rfl h _ _ fun c => hs c h]
  refine Finset.sum_congr rfl fun d _ => ?_
  have hq : ∀ f : Fin 128 → EReal, ∑ z, e (ix2 R z) * f z = f (queryOf b i) := fun f =>
    sum_pick (queryOf b i) f _ fun z => by
      rw [he]
      have : R.val / 16 = (queryOf b i).val := by show _ = b.val * 8 + i.val; omega
      rw [this]
  rw [hq]
  have h1 : (⟨R.val / 128, by omega⟩ : Fin 16) = b := Fin.ext (by show R.val / 128 = b.val; omega)
  have h2 : (⟨R.val % 128, by omega⟩ : Fin 128) = keyOf i u := Fin.ext (by show R.val % 128 = i.val * 16 + u.val; omega)
  have h3 : (⟨(queryOf b i).val / 8, by omega⟩ : Fin 16) = b := Fin.ext (by show (b.val * 8 + i.val) / 8 = b.val; omega)
  have h4 : (⟨(queryOf b i).val % 8, by omega⟩ : Fin 8) = i := Fin.ext (by show (b.val * 8 + i.val) % 8 = i.val; omega)
  rw [h1, h2, h3, h4]
  rfl

/-- The staged attention weight of key `u` of query `i` of batch `b`. -/
theorem pay2_at (he : ∀ R z, e (ix2 R z) = if R.val / 16 = z.val then 1 else 0) (hs : ∀ c h, s (ix2 c h) = if c.val / 64 = h.val then 1 else 0)
    (b : Fin 16) (i : Fin 8) (u : Fin 16) (h : Fin 8) (R : Fin 2048) (hR : R.val = (b.val * 8 + i.val) * 16 + u.val) :
    k0_pay2 (F := Ideal) kb qb w w e s (ix2 R h)
      = weight eighth (fun c t => w (ix2 t c)) (fun t => qb (ix3 b i t)) (fun u t => kb (ix3 b (keyOf i u) t)) h u := by
  rw [pay2_logit, logit_at kb qb w e s he hs b i u h R hR]
  unfold weight
  congr 1
  exact Finset.sum_congr rfl fun u' _ =>
    congrArg Ideal.exp (logit_at kb qb w e s he hs b i u' h _ (by show R.val / 16 * 16 + u'.val = _; omega))

/-- What the grid point stores, from staged attention weights `a`: the block's rows are summed by a product with `g`, the weights spread over the features by a product with `st`. -/
theorem pay1_at (hst : ∀ h c, st (ix2 h c) = if c.val / 64 = h.val then 1 else 0) (hg : ∀ z R, g (ix2 z R) = if R.val / 16 = z.val then 1 else 0)
    (b : Fin 16) (i : Fin 8) (n : Fin 512) :
    k0_pay1 (F := Ideal) a (k0_pay3 vb) wv st g wp bp (ix3 b i n)
      = (∑ c, (∑ u, proj (fun t => vb (ix3 b (keyOf i u) t)) (fun c t => wv (ix2 t c)) c
          * a (ix2 (groupAt (J := 128) (T := 16) rfl (queryOf b i) u) (headOf c))) * wp (ix2 c n)) + bp (ix2 0 n) := by
  pointwise [k0_pay1, k0_pay3]
  congr 1
  refine Finset.sum_congr rfl fun c _ => ?_
  congr 1
  refine (sum_group_mul (J := 128) (T := 16) rfl (queryOf b i) _ (fun R => g (ix2 (queryOf b i) R)) fun R => hg _ R).trans ?_
  refine Finset.sum_congr rfl fun u _ => ?_
  rw [sum_pick_right (headOf c) _ _ fun h => hst h c]
  generalize hR : groupAt (J := 128) (T := 16) (N := 2048) rfl (queryOf b i) u = R
  have hR' : R.val = (b.val * 8 + i.val) * 16 + u.val := by rw [← hR]; rfl
  have h1 : (⟨R.val / 128, by omega⟩ : Fin 16) = b := Fin.ext (by show R.val / 128 = b.val; omega)
  have h2 : (⟨R.val % 128, by omega⟩ : Fin 128) = keyOf i u := Fin.ext (by show R.val % 128 = i.val * 16 + u.val; omega)
  have hv : ∀ y, vb (ix3 ⟨R.val / 128, by omega⟩ ⟨R.val % 128, by omega⟩ y) = vb (ix3 b (keyOf i u) y) := fun y => by rw [h1, h2]
  exact Ideal.mul_congr (Finset.sum_congr rfl fun y _ => Ideal.mul_congr (hv y) rfl) rfl

/-- What the grid point stores at batch `b`, query `i`, feature `n` of its block is the plain attention of that query over its own block of keys. -/
theorem stored_at (he : ∀ R z, e (ix2 R z) = if R.val / 16 = z.val then 1 else 0) (hs : ∀ c h, s (ix2 c h) = if c.val / 64 = h.val then 1 else 0)
    (hst : ∀ h c, st (ix2 h c) = if c.val / 64 = h.val then 1 else 0) (hg : ∀ z R, g (ix2 z R) = if R.val / 16 = z.val then 1 else 0)
    (b : Fin 16) (i : Fin 8) (n : Fin 512) :
    k0_pay1 (F := Ideal) (k0_pay2 kb qb w w e s) (k0_pay3 vb) wv st g wp bp (ix3 b i n)
      = attend eighth (fun c t => w (ix2 t c)) (fun c t => wv (ix2 t c)) (fun c t => wp (ix2 t c)) (fun n => bp (ix2 0 n))
          (fun t => qb (ix3 b i t)) (fun u t => kb (ix3 b (keyOf i u) t)) (fun u t => vb (ix3 b (keyOf i u) t)) n := by
  rw [pay1_at vb wv wp st g bp _ hst hg]
  unfold attend mixed
  congr 1
  refine Finset.sum_congr rfl fun c _ => ?_
  congr 1
  exact Finset.sum_congr rfl fun u _ => congrArg _ (pay2_at kb qb w e s he hs b i u (headOf c) _ rfl)

end Cert.KernelIdeal.Block

end
-- ==== Proof.OneHot.lean ====
/- The kernel's one-hot matrices and transposed weights, as its host operations leave them, read at an index. -/
module

public import proofs.«01_k».proof.Proof.Gen.KernelIdeal.Frame
public import proofs.«01_k».proof.Proof.Spec
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open scoped BigOperators

namespace Cert.KernelIdeal.OneHot

open Cert.KernelIdeal Cert.KernelIdeal.Gen Cert.Attn

variable (m : (ℓ : Loc nD τ sig) → Buf (Elt Ideal) ℓ)

/-- The bias as one row. -/
theorem v6_at (c : Dev nD) (n : Fin 512) : V m c main_v6 (ix2 0 n) = m ((c : Thread nD τ).loc main_arg6) (ix1 n) := by
  unfold V
  after_reads_at

/-- The transposed weights of the query and key projection. -/
theorem v1_at (c : Dev nD) (a b : Fin 512) : V m c main_v1 (ix2 a b) = m ((c : Thread nD τ).loc main_arg3) (ix2 b a) := by
  unfold V
  after_reads_at

/-- The transposed weights of the value projection. -/
theorem v3_at (c : Dev nD) (a b : Fin 512) : V m c main_v3 (ix2 a b) = m ((c : Thread nD τ).loc main_arg4) (ix2 b a) := by
  unfold V
  after_reads_at

/-- The transposed weights of the output projection. -/
theorem v5_at (c : Dev nD) (a b : Fin 512) : V m c main_v5 (ix2 a b) = m ((c : Thread nD τ).loc main_arg5) (ix2 b a) := by
  unfold V
  after_reads_at

/-- The sign of a word, as a word. -/
abbrev sign (x : BitVec 32) : BitVec 32 := if x = 0 then 0 else if x.msb then -1 else 1

/-- Floor division of a word by a word, as the program spells it: the truncated quotient, less one where the signs differ and a remainder is left. -/
abbrev floorDiv (x y : BitVec 32) : BitVec 32 :=
  Scalar.select
    (IntOp.andi
      (IntOp.cmpi CmpIPredicate.ne (sign x) (sign y))
      (IntOp.cmpi CmpIPredicate.ne (IntOp.remsi ArithUnit.host x y) 0#32))
    (IntOp.subi (IntOp.divsi ArithUnit.host x y) 1#32)
    (IntOp.divsi ArithUnit.host x y)

/-- Rows over 16 in words are rows over 16. -/
theorem floorDiv_rows : ∀ a : Fin 2048, floorDiv (BitVec.ofNat 32 a.val) 16#32 = BitVec.ofNat 32 (a.val / 16) := by
  decide +kernel

/-- Features over 64 in words are features over 64. -/
theorem floorDiv_feats : ∀ a : Fin 512, floorDiv (BitVec.ofNat 32 a.val) 64#32 = BitVec.ofNat 32 (a.val / 64) := by
  decide +kernel

/-- The comparison of two small numbers as words, made a number: 1 where they are equal, else 0. -/
theorem indicator {a b : ℕ} (ha : a < 2 ^ 32) (hb : b < 2 ^ 32) :
    FloatOps.uitofp (F := Ideal) FTy.bf16 (IntOp.cmpi CmpIPredicate.eq (BitVec.ofNat 32 a) (BitVec.ofNat 32 b)) = (if a = b then 1 else 0 : EReal) := by
  have hu : ∀ x : BitVec 1, FloatOps.uitofp (F := Ideal) FTy.bf16 x = ((x.toNat : ℝ) : EReal) := fun _ => rfl
  rw [hu]
  by_cases h : a = b
  · subst h
    simp [IntOp.cmpi]
  · have hne : ¬ BitVec.ofNat 32 a = BitVec.ofNat 32 b := fun e => h (by
      have := congrArg BitVec.toNat e
      rwa [BitVec.toNat_ofNat, BitVec.toNat_ofNat, Nat.mod_eq_of_lt ha, Nat.mod_eq_of_lt hb] at this)
    have hc : IntOp.cmpi CmpIPredicate.eq (BitVec.ofNat 32 a) (BitVec.ofNat 32 b) = 0#1 := by
      show BitVec.ofBool (BitVec.ofNat 32 a == BitVec.ofNat 32 b) = 0#1
      rw [beq_eq_false_iff_ne.2 hne]
      rfl
    rw [hc, if_neg h]
    simp

/-- Rows against query rows: 1 where the row lies in the query's block of 16. -/
theorem v15_at (c : Dev nD) (a : Fin 2048) (b : Fin 128) : V m c main_v15 (ix2 a b) = if a.val / 16 = b.val then (1 : EReal) else 0 := by
  unfold V
  after_reads_at
  have hw : (id (constantI S_ 32 16#32) ix0 : BitVec 32) = 16#32 := rfl
  simp only [hw]
  have hf := floorDiv_rows a
  unfold floorDiv sign at hf
  rw [hf]
  exact indicator (by omega) (by omega)

/-- The transpose of `v15`. -/
theorem v26_at (c : Dev nD) (b : Fin 128) (a : Fin 2048) : V m c main_v26 (ix2 b a) = if a.val / 16 = b.val then (1 : EReal) else 0 := by
  unfold V
  after_reads_at
  have hw : (id (constantI S_ 32 16#32) ix0 : BitVec 32) = 16#32 := rfl
  simp only [hw]
  have hf := floorDiv_rows a
  unfold floorDiv sign at hf
  rw [hf]
  exact indicator (by omega) (by omega)

/-- Features against heads: 1 where the feature belongs to the head. -/
theorem v24_at (c : Dev nD) (a : Fin 512) (b : Fin 8) : V m c main_v24 (ix2 a b) = if a.val / 64 = b.val then (1 : EReal) else 0 := by
  unfold V
  after_reads_at
  have hw : (id (constantI S_ 32 64#32) ix0 : BitVec 32) = 64#32 := rfl
  simp only [hw]
  have hf := floorDiv_feats a
  unfold floorDiv sign at hf
  rw [hf]
  exact indicator (by omega) (by omega)

/-- The transpose of `v24`. -/
theorem v25_at (c : Dev nD) (b : Fin 8) (a : Fin 512) : V m c main_v25 (ix2 b a) = if a.val / 64 = b.val then (1 : EReal) else 0 := by
  unfold V
  after_reads_at
  have hw : (id (constantI S_ 32 64#32) ix0 : BitVec 32) = 64#32 := rfl
  simp only [hw]
  have hf := floorDiv_feats a
  unfold floorDiv sign at hf
  rw [hf]
  exact indicator (by omega) (by omega)

end Cert.KernelIdeal.OneHot

end
-- ==== Proof.KernelValue.lean ====
/- The kernel's result array, read at an index. -/
module

public import proofs.«01_k».proof.Proof.Gen.KernelIdeal.Frame
public import proofs.«01_k».proof.Proof.Block
public import proofs.«01_k».proof.Proof.OneHot
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attn

open Cert.KernelIdeal Cert.KernelIdeal.Gen Cert.KernelIdeal.Block Cert.KernelIdeal.OneHot Cert.Attn

variable (m : (ℓ : Loc nD τ sig) → Buf (Elt Ideal) ℓ)

/-- The plain attention over whole arrays: batch `j 0`, query `j 1`, feature `j 2`. -/
def whole (q : FVec Ideal S256x8x512 .f32) (k v : FVec Ideal S256x128x512 .f32) (wk wv wp : FVec Ideal S512x512 .f32) (bp : FVec Ideal S512 .f32) :
    FVec Ideal S256x8x512 .f32 := fun j =>
  attend eighth (fun c t => wk (ix2 c t)) (fun c t => wv (ix2 c t)) (fun c t => wp (ix2 c t)) (fun n => bp (ix1 n))
    (fun t => q (ix3 (j 0) (j 1) t)) (fun u t => k (ix3 (j 0) (keyOf (j 1) u) t)) (fun u t => v (ix3 (j 0) (keyOf (j 1) u) t)) (j 2)

/-- Which block of its array each window holds at each grid point. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0, 0] :=
  (by decide +kernel : ∀ t : Fin grid0.N, _)

/-- The row-against-query indicator, as a grid point holds it. -/
theorem blk7 (c : Dev nD) (t : Fin cfg0.N) (a : Fin 2048) (b : Fin 128) :
    (iblk m c 7 t (ix2 a b) : EReal) = if a.val / 16 = b.val then (1 : EReal) else 0 := by
  refine Eq.trans ?_ (v15_at m c a b)
  blk_ext [iblk, idx t]

/-- The feature-against-head indicator, as a grid point holds it. -/
theorem blk8 (c : Dev nD) (t : Fin cfg0.N) (a : Fin 512) (b : Fin 8) :
    (iblk m c 8 t (ix2 a b) : EReal) = if a.val / 64 = b.val then (1 : EReal) else 0 := by
  refine Eq.trans ?_ (v24_at m c a b)
  blk_ext [iblk, idx t]

/-- The head-against-feature indicator, as a grid point holds it. -/
theorem blk9 (c : Dev nD) (t : Fin cfg0.N) (b : Fin 8) (a : Fin 512) :
    (iblk m c 9 t (ix2 b a) : EReal) = if a.val / 64 = b.val then (1 : EReal) else 0 := by
  refine Eq.trans ?_ (v25_at m c b a)
  blk_ext [iblk, idx t]

/-- The query-against-row indicator, as a grid point holds it. -/
theorem blk10 (c : Dev nD) (t : Fin cfg0.N) (b : Fin 128) (a : Fin 2048) :
    (iblk m c 10 t (ix2 b a) : EReal) = if a.val / 16 = b.val then (1 : EReal) else 0 := by
  refine Eq.trans ?_ (v26_at m c b a)
  blk_ext [iblk, idx t]

/-- The transposed weights of the query and key projection, as a grid point holds them. -/
theorem blk3 (c : Dev nD) (t : Fin cfg0.N) (a b : Fin 512) :
    iblk m c 3 t (ix2 a b) = m ((c : Thread nD τ).loc main_arg3) (ix2 b a) := by
  refine Eq.trans ?_ (v1_at m c a b)
  blk_ext [iblk, idx t]

/-- The transposed weights of the value projection, as a grid point holds them. -/
theorem blk4 (c : Dev nD) (t : Fin cfg0.N) (a b : Fin 512) :
    iblk m c 4 t (ix2 a b) = m ((c : Thread nD τ).loc main_arg4) (ix2 b a) := by
  refine Eq.trans ?_ (v3_at m c a b)
  blk_ext [iblk, idx t]

/-- The transposed weights of the output projection, as a grid point holds them. -/
theorem blk5 (c : Dev nD) (t : Fin cfg0.N) (a b : Fin 512) :
    iblk m c 5 t (ix2 a b) = m ((c : Thread nD τ).loc main_arg5) (ix2 b a) := by
  refine Eq.trans ?_ (v5_at m c a b)
  blk_ext [iblk, idx t]

/-- The bias row, as a grid point holds it. -/
theorem blk6 (c : Dev nD) (t : Fin cfg0.N) (n : Fin 512) :
    iblk m c 6 t (ix2 0 n) = m ((c : Thread nD τ).loc main_arg6) (ix1 n) := by
  refine Eq.trans ?_ (v6_at m c n)
  blk_ext [iblk, idx t]

/-- Batch `p` of grid point `t`'s block of 16, among the 256 batches. -/
abbrev batch (t : Fin cfg0.N) (p : Fin 16) : Fin 256 := ⟨t.val * 16 + p.val, by have : t.val < 16 := t.isLt; omega⟩

/-- The queries a grid point holds. -/
theorem blk0 (c : Dev nD) (t : Fin cfg0.N) (p : Fin 16) (i : Fin 8) (n : Fin 512) :
    iblk m c 0 t (ix3 p i n) = m ((c : Thread nD τ).loc main_arg0) (ix3 (batch t p) i n) := by
  blk_ext [iblk, V, idx t]

/-- The keys a grid point holds. -/
theorem blk1 (c : Dev nD) (t : Fin cfg0.N) (p : Fin 16) (j : Fin 128) (n : Fin 512) :
    iblk m c 1 t (ix3 p j n) = m ((c : Thread nD τ).loc main_arg1) (ix3 (batch t p) j n) := by
  blk_ext [iblk, V, idx t]

/-- The values a grid point holds. -/
theorem blk2 (c : Dev nD) (t : Fin cfg0.N) (p : Fin 16) (j : Fin 128) (n : Fin 512) :
    iblk m c 2 t (ix3 p j n) = m ((c : Thread nD τ).loc main_arg2) (ix3 (batch t p) j n) := by
  blk_ext [iblk, V, idx t]

/-- What grid point `t` stores at index `(p, i, n)` of its block is the plain attention at batch `16 t + p`. -/
theorem point (c : Dev nD) (t : Fin cfg0.N) (p : Fin 16) (i : Fin 8) (n : Fin 512) :
    k0_pay1 (F := Ideal) (k0_pay2 (iblk m c 1 t) (iblk m c 0 t) (iblk m c 3 t) (iblk m c 3 t) (iblk m c 7 t) (iblk m c 8 t))
        (k0_pay3 (iblk m c 2 t)) (iblk m c 4 t) (iblk m c 9 t) (iblk m c 10 t) (iblk m c 5 t) (iblk m c 6 t) (ix3 p i n)
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix3 (batch t p) i n) := by
  refine (stored_at (iblk m c 1 t) (iblk m c 2 t) (iblk m c 0 t) (iblk m c 3 t) (iblk m c 4 t) (iblk m c 5 t) (iblk m c 7 t) (iblk m c 8 t)
    (iblk m c 9 t) (iblk m c 10 t) (iblk m c 6 t) (blk7 m c t) (blk8 m c t) (blk9 m c t) (blk10 m c t) p i n).trans ?_
  simp only [blk0, blk1, blk2, blk3, blk4, blk5, blk6]
  rfl

/-- The result array after the run is the plain attention of the argument arrays. -/
theorem final (c : Dev nD) : (dats m 0 c).arrAt 11 (cfgs 0).N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 11 _ (by decide +kernel) fun t hf y => ?_
  blk_simp; rw [after0_11]; frame_out
  have hy : (y : S16x8x512.Idx) = ix3 (y 0) (y 1) (y 2) := eq_ix3 y
  refine (congrArg _ hy).trans ((point m c t (y 0) (y 1) (y 2)).trans ?_)
  blk_ext [idx t]

end Cert.KernelIdeal.Attn

end
-- ==== Proof.Softmax.lean ====
/- The softmax over 128 keys of which all but one block of 16 are masked, against the plain quotient over the block. -/
module

public import proofs.«01_k».proof.Proof.Spec

@[expose] public section

noncomputable section

open Idealize.ShloMosaic
open scoped BigOperators

namespace Cert.Attn

/-- The largest of 128 extended reals, from minus infinity, as the reference takes it. -/
abbrev top128 (l : Fin 128 → EReal) : EReal := max ⊥ (Finset.univ.fold max ⊥ l)

/-- A masked logit is minus infinity; the logits of the block are real. -/
structure Masked (i : Fin 8) (l : Fin 128 → EReal) (r : Fin 16 → ℝ) : Prop where
  outside : ∀ j : Fin 128, j.val / 16 ≠ i.val → l j = ⊥
  inside : ∀ u, l (keyOf i u) = (r u : EReal)

variable {i : Fin 8} {l : Fin 128 → EReal} {r : Fin 16 → ℝ}

/-- A key in query `i`'s block is one of its sixteen. -/
theorem keyOf_of_div (j : Fin 128) (h : j.val / 16 = i.val) : ∃ u, j = keyOf i u :=
  ⟨⟨j.val % 16, by omega⟩, Fin.ext (by show j.val = i.val * 16 + j.val % 16; omega)⟩

/-- The largest masked logit is a real number, the block not being empty. -/
theorem Masked.top_finite (h : Masked i l r) : Finite (top128 l) := by
  have hlt : top128 l < ⊤ := by
    refine max_lt bot_lt_top (Finset.fold_max_lt _ |>.2 ⟨bot_lt_top, fun j _ => ?_⟩)
    by_cases hj : j.val / 16 = i.val
    · obtain ⟨u, rfl⟩ := keyOf_of_div j hj
      rw [h.inside]; exact EReal.coe_lt_top _
    · rw [h.outside j hj]; exact bot_lt_top
  have hgt : ⊥ < top128 l := by
    refine lt_of_lt_of_le ?_ (le_max_right _ _)
    refine (Finset.lt_fold_max _).2 (Or.inr ⟨keyOf i 0, Finset.mem_univ _, ?_⟩)
    rw [h.inside]; exact EReal.bot_lt_coe _
  generalize top128 l = x at hlt hgt
  induction x using EReal.rec with
  | bot => exact absurd hgt (lt_irrefl _)
  | coe y => exact ⟨y, rfl⟩
  | top => exact absurd hlt (lt_irrefl _)

/-- A masked key's exponential is zero. -/
theorem Masked.exp_outside (h : Masked i l r) (j : Fin 128) (hj : j.val / 16 ≠ i.val) : Ideal.exp (l j - top128 l) = 0 := by
  obtain ⟨μ, hμ⟩ := h.top_finite
  rw [h.outside j hj, EReal.bot_sub, Ideal.exp_bot]

/-- The masked softmax's denominator is the block's sum of shifted exponentials, a positive real number. -/
theorem Masked.denominator (h : Masked i l r) {μ : ℝ} (hμ : top128 l = (μ : EReal)) :
    0 + ∑ j, Ideal.exp (l j - top128 l) = ((∑ u, Real.exp (r u - μ) : ℝ) : EReal) := by
  rw [zero_add, sum_group (J := 8) (T := 16) rfl i _ h.exp_outside, ← coe_sum]
  refine Finset.sum_congr rfl fun u _ => ?_
  rw [h.inside, hμ, ← EReal.coe_sub, Ideal.exp_coe]

/-- Outside the block the masked softmax is zero. -/
theorem Masked.softmax_outside (h : Masked i l r) (j : Fin 128) (hj : j.val / 16 ≠ i.val) :
    Ideal.div (Ideal.exp (l j - top128 l)) (0 + ∑ j', Ideal.exp (l j' - top128 l)) = 0 := by
  obtain ⟨μ, hμ⟩ := h.top_finite
  have hpos : 0 < ∑ u, Real.exp (r u - μ) := Finset.sum_pos (fun u _ => Real.exp_pos _) ⟨0, Finset.mem_univ _⟩
  rw [h.exp_outside j hj, h.denominator hμ, Ideal.div_coe hpos.ne', zero_mul]

/-- In the block the masked softmax is the quotient of the unshifted exponential by the block's sum of them. -/
theorem Masked.softmax_inside (h : Masked i l r) (u : Fin 16) :
    Ideal.div (Ideal.exp (l (keyOf i u) - top128 l)) (0 + ∑ j', Ideal.exp (l j' - top128 l))
      = Ideal.div (Ideal.exp (l (keyOf i u))) (∑ u', Ideal.exp (l (keyOf i u'))) := by
  obtain ⟨μ, hμ⟩ := h.top_finite
  have hpos : 0 < ∑ u, Real.exp (r u - μ) := Finset.sum_pos (fun u _ => Real.exp_pos _) ⟨0, Finset.mem_univ _⟩
  have hpos' : 0 < ∑ u, Real.exp (r u) := Finset.sum_pos (fun u _ => Real.exp_pos _) ⟨0, Finset.mem_univ _⟩
  rw [h.denominator hμ, Ideal.div_coe hpos.ne', hμ]
  simp only [h.inside, Ideal.exp_coe, coe_sum]
  rw [Ideal.div_coe hpos'.ne', ← EReal.coe_sub, Ideal.exp_coe, ← EReal.coe_mul, ← EReal.coe_mul]
  congr 1
  have hs : ∑ u, Real.exp (r u - μ) = (∑ u, Real.exp (r u)) / Real.exp μ := by
    rw [Finset.sum_div]; exact Finset.sum_congr rfl fun u _ => Real.exp_sub _ _
  rw [hs, Real.exp_sub]
  have := (Real.exp_pos μ).ne'
  field_simp

end Cert.Attn

end
-- ==== Proof.RefValue.lean ====
/- The reference's result, cut at its logits, its softmax and its output, each read at an index. -/
module

public import proofs.«01_k».proof.Proof.Gen.ReferenceIdeal.Run
public import proofs.«01_k».proof.Proof.Softmax

@[expose] public section

set_option maxRecDepth 16384

noncomputable section

open Idealize.ShloMosaic Idealize.ShloMosaic.TcCoe Idealize.SL.Sem
open scoped BigOperators

namespace Cert.ReferenceIdeal.Attn

open Cert.ReferenceIdeal Cert.ReferenceIdeal.Gen Cert.ReferenceIdeal.Value Cert.Attn

/-- The word 0xFF800000 is minus infinity. -/
theorem ofBits_bot : Ideal.ofBits .f32 0xFF800000#32 = ⊥ := by
  simp [Ideal.ofBits, Ideal.ieee]

/-- A maximum along the last axis of a rank-4 array, read at an index: the fold of `max` over that axis. -/
theorem reduce_max_at {a b d e : ℕ} {u : Shape} (x : FVec Ideal ⟨4, ![a, b, d, e]⟩ .f32) (c : FVec Ideal u .f32)
    (h : (⟨4, ![a, b, d, e]⟩ : Shape).ReducesTo [3] ⟨3, ![a, b, d]⟩) (hu : 0 < u.numel) (p : Fin a) (q : Fin b) (r : Fin d) :
    Host.reduce FloatOps.maximumf x c h hu (ix3 p q r) = Finset.univ.fold max (c (Shape.Idx.first hu)) fun k : Fin e => x (ix4 p q r k) := by
  pointwise

/-- The logits, masked. -/
def logits (q : FVec Ideal S256x8x512 .f32) (k : FVec Ideal S256x128x512 .f32) (wk : FVec Ideal S512x512 .f32) (mask : IVec S8x128 1) : FVec Ideal S256x8x8x128 .f32 :=
  select (broadcastInDim S256x8x8x128 ![0, 1, 2, 3] bcast_S1x1x8x128_S256x8x8x128_0_1_2_3 (broadcastInDim S1x1x8x128 ![2, 3] bcast_S8x128_S1x1x8x128_2_3 mask)) (broadcastInDim S256x8x8x128 ![] bcast_S_S256x8x8x128 (id (constant S_ .f32 0xFF800000#32))) (Host.dotGeneral dot_S256x8x8x64_S256x128x8x64_S256x8x8x128_3_3_1_1_02_02 none (mulf (shapeCast _ (Host.dotGeneral dot_S256x8x512_S512x512_S256x8x512_2_0_01_1_n_n none q (transpose S512x512 [1, 0] wk transposes_S512x512_S512x512_1_0)) shapeCasts_S256x8x512_S256x8x8x64) (broadcastInDim S256x8x8x64 ![] bcast_S_S256x8x8x64 (constant S_ .f32 0x3E000000#32))) (shapeCast _ (Host.dotGeneral dot_S256x128x512_S512x512_S256x128x512_2_0_01_1_n_n none k (transpose S512x512 [1, 0] wk transposes_S512x512_S512x512_1_0)) shapeCasts_S256x128x512_S256x128x8x64))

/-- A masked logit is minus infinity; the others are the scores. -/
theorem logits_at (q : FVec Ideal S256x8x512 .f32) (k : FVec Ideal S256x128x512 .f32) (wk : FVec Ideal S512x512 .f32) (mask : IVec S8x128 1)
    (b : Fin 256) (h i : Fin 8) (j : Fin 128) :
    logits q k wk mask (ix4 b h i j)
      = Scalar.select (mask (ix2 i j)) ⊥
          (score (Ideal.ofBits .f32 0x3E000000#32) (fun c t => wk (ix2 c t)) (fun t => q (ix3 b i t)) (fun t => k (ix3 b j t)) h) := by
  have hb : id (constant (F := Ideal) S_ FTy.f32 0xFF800000#32) ix0 = ⊥ := ofBits_bot
  pointwise [logits]
  rw [hb]
  congr 1
  exact Finset.sum_congr rfl fun d _ => mul_comm _ _

/-- The same at the reference's own shapes. -/
theorem reduce_max_keys (l : FVec Ideal S256x8x8x128 .f32) (c : FVec Ideal S_ .f32) (b : Fin 256) (h i : Fin 8) :
    Host.reduce FloatOps.maximumf l c reducesTo_S256x8x8x128_S256x8x8_d3 h_S_ (ix3 b h i)
      = Finset.univ.fold max (c (Shape.Idx.first h_S_)) fun k : Fin 128 => l (ix4 b h i k) :=
  reduce_max_at l c reducesTo_S256x8x8x128_S256x8x8_d3 h_S_ b h i

/-- The maximum starts from minus infinity. -/
theorem fold_from_bot (f : Fin 128 → EReal) :
    Finset.univ.fold max ((constant S_ .f32 0xFF800000#32 : FVec Ideal S_ .f32) (Shape.Idx.first h_S_)) f = Finset.univ.fold max ⊥ f := by
  rw [show (constant S_ .f32 0xFF800000#32 : FVec Ideal S_ .f32) (Shape.Idx.first h_S_) = (⊥ : EReal) from ofBits_bot]

/-- The largest logit of each query and head. -/
def rowMax (l : FVec Ideal S256x8x8x128 .f32) : FVec Ideal S256x8x8 .f32 :=
  Host.reduce FloatOps.maximumf l (constant S_ .f32 0xFF800000#32) reducesTo_S256x8x8x128_S256x8x8_d3 h_S_

/-- It is the fold of `max` over the keys, from minus infinity. -/
theorem rowMax_at (l : FVec Ideal S256x8x8x128 .f32) (b : Fin 256) (h i : Fin 8) :
    rowMax l (ix3 b h i) = Finset.univ.fold max ⊥ fun k : Fin 128 => l (ix4 b h i k) := by
  unfold rowMax
  exact (reduce_max_keys l _ b h i).trans (fold_from_bot fun k => l (ix4 b h i k))

/-- The exponentials of the logits less a number for each query and head. -/
def shifted (l : FVec Ideal S256x8x8x128 .f32) (x : FVec Ideal S256x8x8 .f32) : FVec Ideal S256x8x8x128 .f32 :=
  Host.exp (subf l (broadcastInDim S256x8x8x128 ![0, 1, 2, 3] bcast_S256x8x8x1_S256x8x8x128_0_1_2_3 (broadcastInDim S256x8x8x1 ![0, 1, 2] bcast_S256x8x8_S256x8x8x1_0_1_2 (maximumf (broadcastInDim S256x8x8 ![] bcast_S_S256x8x8 (constant S_ .f32 0xFF800000#32)) x))))

/-- Each exponential, read at an index. -/
theorem shifted_at (l : FVec Ideal S256x8x8x128 .f32) (x : FVec Ideal S256x8x8 .f32) (b : Fin 256) (h i : Fin 8) (j : Fin 128) :
    shifted l x (ix4 b h i j) = Ideal.exp (l (ix4 b h i j) - max ⊥ (x (ix3 b h i))) := by
  pointwise [shifted]
  rw [ofBits_bot]

/-- The exponentials of the logits less their row's maximum. -/
def expd (l : FVec Ideal S256x8x8x128 .f32) : FVec Ideal S256x8x8x128 .f32 := shifted l (rowMax l)

/-- Each exponential, read at an index. -/
theorem expd_at (l : FVec Ideal S256x8x8x128 .f32) (b : Fin 256) (h i : Fin 8) (j : Fin 128) :
    expd l (ix4 b h i j) = Ideal.exp (l (ix4 b h i j) - top128 fun k => l (ix4 b h i k)) := by
  unfold expd
  exact (shifted_at l (rowMax l) b h i j).trans (congrArg (fun z => Ideal.exp (l (ix4 b h i j) - max ⊥ z)) (rowMax_at l b h i))

/-- The softmax over the keys. -/
def soft (x : FVec Ideal S256x8x8x128 .f32) : FVec Ideal S256x8x8x128 .f32 :=
  Host.divf x (broadcastInDim S256x8x8x128 ![0, 1, 2, 3] bcast_S256x8x8x1_S256x8x8x128_0_1_2_3 (broadcastInDim S256x8x8x1 ![0, 1, 2] bcast_S256x8x8_S256x8x8x1_0_1_2 (Host.reduceAdd x (constant S_ .f32 0x00000000#32) reducesTo_S256x8x8x128_S256x8x8_d3 h_S_)))

/-- Each exponential over its row's sum. -/
theorem soft_at (x : FVec Ideal S256x8x8x128 .f32) (b : Fin 256) (h i : Fin 8) (j : Fin 128) :
    soft x (ix4 b h i j) = Ideal.div (x (ix4 b h i j)) (0 + ∑ k : Fin 128, x (ix4 b h i k)) := by
  pointwise [soft]

/-- The result from the attention weights: the values' weighted mean, projected, and the bias added. -/
def output (w : FVec Ideal S256x8x8x128 .f32) (v : FVec Ideal S256x128x512 .f32) (wv wp : FVec Ideal S512x512 .f32) (bp : FVec Ideal S512 .f32) :
    FVec Ideal S256x8x512 .f32 :=
  addf (Host.dotGeneral dot_S256x8x512_S512x512_S256x8x512_2_0_01_1_n_n none (shapeCast _ (transpose S256x8x8x64 [0, 3, 1, 2] (Host.dotGeneral dot_S256x128x8x64_S256x8x8x128_S256x8x64x8_1_3_3_2_02_01 none (shapeCast _ (Host.dotGeneral dot_S256x128x512_S512x512_S256x128x512_2_0_01_1_n_n none v (transpose S512x512 [1, 0] wv transposes_S512x512_S512x512_1_0)) shapeCasts_S256x128x512_S256x128x8x64) w) transposes_S256x8x64x8_S256x8x8x64_0_3_1_2) shapeCasts_S256x8x8x64_S256x8x512) (transpose S512x512 [1, 0] wp transposes_S512x512_S512x512_1_0)) (broadcastInDim S256x8x512 ![0, 1, 2] bcast_S1x1x512_S256x8x512_0_1_2 (broadcastInDim S1x1x512 ![2] bcast_S512_S1x1x512_2 bp))

/-- The result read at an index. -/
theorem output_at (w : FVec Ideal S256x8x8x128 .f32) (v : FVec Ideal S256x128x512 .f32) (wv wp : FVec Ideal S512x512 .f32) (bp : FVec Ideal S512 .f32)
    (b : Fin 256) (i : Fin 8) (n : Fin 512) :
    output w v wv wp bp (ix3 b i n)
      = (∑ c, (∑ j : Fin 128, proj (fun t => v (ix3 b j t)) (fun c t => wv (ix2 c t)) c * w (ix4 b (headOf c) i j)) * wp (ix2 n c)) + bp (ix1 n) := by
  pointwise [output]
  rfl

/-- The generated run's result is these four steps in turn. -/
theorem result_eq (m : (ℓ : Loc nD τ sig) → Buf (Elt Ideal) ℓ) (c : Dev nD) :
    res_out0 m c = output (soft (expd (logits (m ((c.tc : Thread nD τ).loc main_arg0)) (m ((c.tc : Thread nD τ).loc main_arg1))
        (m ((c.tc : Thread nD τ).loc main_arg3)) (m ((c.tc : Thread nD τ).loc main_arg7)))))
      (m ((c.tc : Thread nD τ).loc main_arg2)) (m ((c.tc : Thread nD τ).loc main_arg4)) (m ((c.tc : Thread nD τ).loc main_arg5))
      (m ((c.tc : Thread nD τ).loc main_arg6)) := by
  with_unfolding_all rfl

variable {q : FVec Ideal S256x8x512 .f32} {k v : FVec Ideal S256x128x512 .f32} {wk wv wp : FVec Ideal S512x512 .f32} {bp : FVec Ideal S512 .f32}
  {mask : IVec S8x128 1}

/-- The word 0x3E000000, one eighth, is a real number. -/
theorem eighth_finite : Finite (Ideal.ofBits .f32 0x3E000000#32) :=
  ⟨1 / 8, by simp [Ideal.ofBits, Ideal.ieee, -EReal.coe_mul]; norm_num⟩

/-- Under the block mask, with real queries, keys and weights, the logits of a query are real on its block and minus infinity elsewhere. -/
theorem logits_masked (hq : ∀ a b c, Finite (q (ix3 a b c))) (hk : ∀ a b c, Finite (k (ix3 a b c))) (hw : ∀ a b, Finite (wk (ix2 a b)))
    (hm : ∀ a b, mask (ix2 a b) = if b.val / 16 = a.val then 0#1 else 1#1) (b : Fin 256) (h i : Fin 8) :
    ∃ r : Fin 16 → ℝ, Masked i (fun j => logits q k wk mask (ix4 b h i j)) r
      ∧ ∀ u, logits q k wk mask (ix4 b h i (keyOf i u))
          = score (Ideal.ofBits .f32 0x3E000000#32) (fun c t => wk (ix2 c t)) (fun t => q (ix3 b i t)) (fun t => k (ix3 b (keyOf i u) t)) h := by
  have hs : ∀ u, logits q k wk mask (ix4 b h i (keyOf i u))
      = score (Ideal.ofBits .f32 0x3E000000#32) (fun c t => wk (ix2 c t)) (fun t => q (ix3 b i t)) (fun t => k (ix3 b (keyOf i u) t)) h := fun u => by
    rw [logits_at, hm, if_pos (groupAt_div _ i u)]
    rfl
  have hf : ∀ u, Finite (logits q k wk mask (ix4 b h i (keyOf i u))) := fun u => by
    rw [hs]
    exact score_finite eighth_finite (fun c t => hw c t) (fun t => hq b i t) (fun t => hk b (keyOf i u) t) h
  choose r hr using hf
  refine ⟨r, ⟨fun j hj => ?_, hr⟩, hs⟩
  show logits q k wk mask (ix4 b h i j) = ⊥
  rw [logits_at, hm, if_neg hj]
  rfl

/-- Under the block mask, with real queries, keys and weights, the reference's result is the plain attention of each query over its own block of keys. -/
theorem value_at (hq : ∀ a b c, Finite (q (ix3 a b c))) (hk : ∀ a b c, Finite (k (ix3 a b c))) (hw : ∀ a b, Finite (wk (ix2 a b)))
    (hm : ∀ a b, mask (ix2 a b) = if b.val / 16 = a.val then 0#1 else 1#1) (b : Fin 256) (i : Fin 8) (n : Fin 512) :
    output (soft (expd (logits q k wk mask))) v wv wp bp (ix3 b i n)
      = attend (Ideal.ofBits .f32 0x3E000000#32) (fun c t => wk (ix2 c t)) (fun c t => wv (ix2 c t)) (fun c t => wp (ix2 c t)) (fun n => bp (ix1 n))
          (fun t => q (ix3 b i t)) (fun u t => k (ix3 b (keyOf i u) t)) (fun u t => v (ix3 b (keyOf i u) t)) n := by
  rw [output_at]
  unfold attend mixed
  congr 1
  refine Finset.sum_congr rfl fun c _ => ?_
  congr 1
  obtain ⟨r, hM, hs⟩ := logits_masked hq hk hw hm b (headOf c) i
  have hsoft : ∀ j, soft (expd (logits q k wk mask)) (ix4 b (headOf c) i j)
      = Ideal.div (Ideal.exp (logits q k wk mask (ix4 b (headOf c) i j) - top128 fun j => logits q k wk mask (ix4 b (headOf c) i j)))
          (0 + ∑ j', Ideal.exp (logits q k wk mask (ix4 b (headOf c) i j') - top128 fun j => logits q k wk mask (ix4 b (headOf c) i j))) := fun j => by
    rw [soft_at]
    simp only [expd_at]
  rw [sum_group (J := 8) (T := 16) rfl i _ fun j hj => by rw [hsoft, hM.softmax_outside j hj, mul_zero]]
  refine Finset.sum_congr rfl fun u _ => congrArg _ ?_
  refine (hsoft (keyOf i u)).trans ((hM.softmax_inside u).trans ?_)
  unfold weight
  simp only [hs]

end Cert.ReferenceIdeal.Attn

end
-- ==== Proof.Equation.lean ====
/- The equation between the two programs: on arrays that meet the precondition, what the reference's operations compute
   is the kernel's result array (`KernelIdeal.Attn.whole`, the plain attention of Spec.lean). -/
module

public import proofs.«01_k».proof.Proof.Pre
public import proofs.«01_k».proof.Proof.KernelValue
public import proofs.«01_k».proof.Proof.RefValue

@[expose] public section

noncomputable section

open Idealize.ShloMosaic Idealize.ShloMosaic.TcCoe

namespace Cert.Attn

open Cert.ReferenceIdeal.Attn Cert.Pre_finite_logits_block_mask

variable [Cert.Pre_finite_logits_block_mask.Facts]

/-- Under the precondition the reference's composed operations give the kernel's result array. -/
theorem same {q : FVec Ideal Cert.ReferenceIdeal.S256x8x512 .f32} {k v : FVec Ideal Cert.ReferenceIdeal.S256x128x512 .f32}
    {wk wv wp : FVec Ideal Cert.ReferenceIdeal.S512x512 .f32} {bp : FVec Ideal Cert.ReferenceIdeal.S512 .f32} {mask : IVec Cert.ReferenceIdeal.S8x128 1}
    (hq : (fn (F := Ideal) q k v wk wv wp bp mask).1 = fun _ => 1#1) (hk : (fn (F := Ideal) q k v wk wv wp bp mask).2.1 = fun _ => 1#1)
    (hw : (fn (F := Ideal) q k v wk wv wp bp mask).2.2.1 = fun _ => 1#1) (hm : (fn (F := Ideal) q k v wk wv wp bp mask).2.2.2 = fun _ => 1#1) :
    output (soft (expd (logits q k wk mask))) v wv wp bp = Cert.KernelIdeal.Attn.whole q k v wk wv wp bp := by
  funext j
  refine (congrArg _ (eq_ix3 j)).trans ?_
  exact value_at (Pre.q_finite hq) (Pre.k_finite hk) (Pre.wk_finite hw) (Pre.mask_at hm) (j 0) (j 1) (j 2)

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference, from any memory, terminates with its arguments unchanged; it declares no semaphore, so all counters read zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference, from arguments that agree and meet the precondition, end holding the same result array. -/
theorem equal [Cert.Pre_finite_logits_block_mask.Facts] : Cert.algebraic_KernelIdeal_ReferenceIdeal_pre_finite_logits_block_mask := by
  pair_intro
  · run_from Cert.KernelIdeal.Value.run_blocks m g
  · run_from Cert.ReferenceIdeal.Value.run m' g'
    rename_i c
    obtain ⟨a0, a1, a2, a3, a4, a5, a6, a7⟩ := hagree c
    obtain ⟨h0, h1, h2, h3⟩ := hpre c
    refine (Cert.ReferenceIdeal.Attn.result_eq m' c).trans ?_
    rw [a0, a1, a2, a3, a4, a5, a6, a7]
    exact (Cert.Attn.same h0 h1 h2 h3).trans (Cert.KernelIdeal.Attn.final m c).symm

/-- Every claim of the certificate. -/
theorem claim : Cert.Claim :=
  ⟨Cert.Kernel.Gen.facts, Cert.KernelIdeal.Gen.facts, Cert.ReferenceIdeal.Gen.facts, Cert.Attn.Pre.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, @equal Cert.Attn.Pre.facts⟩

end Cert.Proof

end
